-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S36864x64 : Shape := ⟨2, ![36864, 64]⟩
abbrev S8192x64 : Shape := ⟨2, ![8192, 64]⟩
abbrev S_ : Shape := ⟨0, ![]⟩

class Facts : Prop where
  bcast_S_S36864x64 : S_.BroadcastsInDim S36864x64 (![] : Fin 0 → Fin S36864x64.rank)
  bcast_S_S8192x64 : S_.BroadcastsInDim S8192x64 (![] : Fin 0 → Fin S8192x64.rank)

variable [Facts]

def fn {F : FTy → Type} [FloatOps F] (main_arg0 : FVec F S36864x64 .f32) (main_arg1 : FVec F S8192x64 .f32) : IVec S36864x64 1 × IVec S8192x64 1 :=
  let main_v0 : FVec F S36864x64 .f32 := Host.absf main_arg0
  let main_cst : FVec F S_ .f32 := constant S_ .f32 0x7F800000#32
  let main_v1 : FVec F S36864x64 .f32 := broadcastInDim S36864x64 ![] bcast_S_S36864x64 main_cst
  let main_v2 : IVec S36864x64 1 := cmpf .olt main_v0 main_v1
  let main_v3 : FVec F S8192x64 .f32 := Host.absf main_arg1
  let main_cst_0 : FVec F S_ .f32 := constant S_ .f32 0x7F800000#32
  let main_v4 : FVec F S8192x64 .f32 := broadcastInDim S8192x64 ![] bcast_S_S8192x64 main_cst_0
  let main_v5 : IVec S8192x64 1 := cmpf .olt main_v3 main_v4
  (main_v2, main_v5)
-- ==== Kernel.lean ====
abbrev S36864x64 : Shape := ⟨2, ![36864, 64]⟩
abbrev S8192x64 : Shape := ⟨2, ![8192, 64]⟩
abbrev S64x36864 : Shape := ⟨2, ![64, 36864]⟩
abbrev S1x1 : Shape := ⟨2, ![1, 1]⟩
abbrev S64x4608 : Shape := ⟨2, ![64, 4608]⟩
abbrev S8192x1 : Shape := ⟨2, ![8192, 1]⟩
abbrev S8192 : Shape := ⟨1, ![8192]⟩
abbrev S1x4608 : Shape := ⟨2, ![1, 4608]⟩
abbrev S2048x64 : Shape := ⟨2, ![2048, 64]⟩
abbrev S2048x4608 : Shape := ⟨2, ![2048, 4608]⟩
abbrev S2048x1 : Shape := ⟨2, ![2048, 1]⟩
abbrev S4608 : Shape := ⟨1, ![4608]⟩
abbrev S1x1x4608 : Shape := ⟨3, ![1, 1, 4608]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 4
  | .smem => 1
  | _ => 0

abbrev bufTy : (tb : Table) → Fin (tcTables nBuf tb) → BufTy
  | .hbm, ⟨0, _⟩ => ⟨S36864x64, .f32⟩
  | .hbm, ⟨1, _⟩ => ⟨S8192x64, .f32⟩
  | .hbm, ⟨2, _⟩ => ⟨S64x36864, .f32⟩
  | .hbm, ⟨3, _⟩ => ⟨S1x1, .f32⟩
  | .hbm, ⟨4, _⟩ => ⟨S_, .f32⟩
  | .local _ .vmem, ⟨0, _⟩ => ⟨S64x4608, .f32⟩
  | .local _ .vmem, ⟨1, _⟩ => ⟨S64x4608, .f32⟩
  | .local _ .vmem, ⟨2, _⟩ => ⟨S8192x64, .f32⟩
  | .local _ .vmem, ⟨3, _⟩ => ⟨S8192x1, .f32⟩
  | .local _ .smem, ⟨0, _⟩ => ⟨S1x1, .f32⟩
  | _, _ => ⟨S36864x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (c0_i32_3 : BitVec 32) : Fin 2 → Nat :=
  let c2048_i32 : BitVec 32 := 2048#32
  let v8 : BitVec 32 := Scalar.muli c0_i32_3 c2048_i32
  let v9 : Index := Scalar.indexCast v8
  let c0_4 : Index := 0#32
  ![v9.toNat, 0]
def k0_off2 (c0_i32_3 : BitVec 32) : Fin 2 → Nat :=
  let c2048_i32_6 : BitVec 32 := 2048#32
  let v12 : BitVec 32 := Scalar.muli c0_i32_3 c2048_i32_6
  let v13 : Index := Scalar.indexCast v12
  let c0_7 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S36864x64 : Shape := ⟨2, ![36864, 64]⟩
abbrev S8192x64 : Shape := ⟨2, ![8192, 64]⟩
abbrev S_ : Shape := ⟨0, ![]⟩
abbrev S36864 : Shape := ⟨1, ![36864]⟩
abbrev S36864x1 : Shape := ⟨2, ![36864, 1]⟩
abbrev S8192 : Shape := ⟨1, ![8192]⟩
abbrev S1x8192 : Shape := ⟨2, ![1, 8192]⟩
abbrev S36864x8192 : Shape := ⟨2, ![36864, 8192]⟩
abbrev S64x8192 : Shape := ⟨2, ![64, 8192]⟩
abbrev S1 : Shape := ⟨1, ![1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S36864x64, .f32⟩
  | .hbm, ⟨1, _⟩ => ⟨S8192x64, .f32⟩
  | .hbm, ⟨2, _⟩ => ⟨S36864x64, .f32⟩
  | .hbm, ⟨3, _⟩ => ⟨S_, .f32⟩
  | .hbm, ⟨4, _⟩ => ⟨S36864, .f32⟩
  | .hbm, ⟨5, _⟩ => ⟨S36864x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S36864x8192, .f32⟩
  | .hbm, ⟨11, _⟩ => ⟨S36864x8192, .f32⟩
  | .hbm, ⟨12, _⟩ => ⟨S36864x8192, .f32⟩
  | .hbm, ⟨13, _⟩ => ⟨S64x8192, .f32⟩
  | .hbm, ⟨14, _⟩ => ⟨S36864x8192, .f32⟩
  | .hbm, ⟨15, _⟩ => ⟨S_, .f32⟩
  | .hbm, ⟨16, _⟩ => ⟨S36864x8192, .f32⟩
  | .hbm, ⟨17, _⟩ => ⟨S36864x8192, .f32⟩
  | .hbm, ⟨18, _⟩ => ⟨S36864x8192, .f32⟩
  | .hbm, ⟨19, _⟩ => ⟨S36864x8192, .i32⟩
  | .hbm, ⟨20, _⟩ => ⟨S_, .f32⟩
  | .hbm, ⟨21, _⟩ => ⟨S_, .i32⟩
  | .hbm, ⟨22, _⟩ => ⟨S36864, .f32⟩
  | .hbm, ⟨23, _⟩ => ⟨S36864, .i32⟩
  | .hbm, ⟨24, _⟩ => ⟨S_, .i32⟩
  | .hbm, ⟨25, _⟩ => ⟨S36864, .i32⟩
  | .hbm, ⟨26, _⟩ => ⟨S36864, .i1⟩
  | .hbm, ⟨27, _⟩ => ⟨S_, .i32⟩
  | .hbm, ⟨28, _⟩ => ⟨S36864, .i32⟩
  | .hbm, ⟨29, _⟩ => ⟨S36864, .i32⟩
  | .hbm, ⟨30, _⟩ => ⟨S36864, .i32⟩
  | .hbm, ⟨31, _⟩ => ⟨S36864x1, .i32⟩
  | .hbm, ⟨32, _⟩ => ⟨S1, .i32⟩
  | .hbm, ⟨33, _⟩ => ⟨S_, .i32⟩
  | .hbm, ⟨34, _⟩ => ⟨S36864x1, .i32⟩
  | .hbm, ⟨35, _⟩ => ⟨S36864x1, .i1⟩
  | .hbm, ⟨36, _⟩ => ⟨S1x1, .i32⟩
  | .hbm, ⟨37, _⟩ => ⟨S36864x1, .i32⟩
  | .hbm, ⟨38, _⟩ => ⟨S36864x1, .i1⟩
  | .hbm, ⟨39, _⟩ => ⟨S36864x1, .i1⟩
  | .hbm, ⟨40, _⟩ => ⟨S_, .i1⟩
  | .hbm, ⟨41, _⟩ => ⟨S36864, .i1⟩
  | .hbm, ⟨42, _⟩ => ⟨S36864x64, .f32⟩
  | .hbm, ⟨43, _⟩ => ⟨S36864x64, .i1⟩
  | .hbm, ⟨44, _⟩ => ⟨S_, .f32⟩
  | .hbm, ⟨45, _⟩ => ⟨S36864x64, .f32⟩
  | .hbm, ⟨46, _⟩ => ⟨S36864x64, .f32⟩
  | .hbm, ⟨47, _⟩ => ⟨S36864x64, .f32⟩
  | .hbm, ⟨48, _⟩ => ⟨S36864x64, .f32⟩
  | .hbm, ⟨49, _⟩ => ⟨S_, .f32⟩
  | .hbm, ⟨50, _⟩ => ⟨S36864, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S36864x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_cst_4 : Ref sig .tc := ⟨.hbm, 53, rfl⟩
abbrev main_v20 : Ref sig .tc := ⟨.hbm, 54, rfl⟩

abbrev nD : Nat := 1
abbrev τ : Topo := Topo.v7x

variable {F : FTy → Type} [FloatOps F]
-- ==== Proof.RefRun.lean ====
module

public import proofs.«01_k».proof.Defs
public import proofs.«01_k».proof.Proof.Gen.ReferenceIdeal
public import Idealize.ShloMosaic.Lib.Claim

@[expose] public section

noncomputable section

/-! The reference program's run: what its one result buffer ends at, as a term in the two arguments,
    and the arguments unchanged. -/

namespace Cert.Proof.Ref

open Idealize.ShloMosaic Idealize.SL.Sem
open Cert.ReferenceIdeal Cert.ReferenceIdeal.Gen

/-- The table of squared distances, expanded: token norm plus code norm minus twice the product. -/
def dist (z : FVec Ideal S36864x64 .f32) (c : FVec Ideal S8192x64 .f32) : FVec Ideal S36864x8192 .f32 :=
  subf
    (addf
      (broadcastInDim S36864x8192 ![0, 1] bcast_S36864x1_S36864x8192_0_1
        (broadcastInDim S36864x1 ![0] bcast_S36864_S36864x1_0
          (Host.reduceAdd (mulf z z) (constant S_ .f32 0x00000000#32) reducesTo_S36864x64_S36864_d1 h_S_)))
      (broadcastInDim S36864x8192 ![0, 1] bcast_S1x8192_S36864x8192_0_1
        (broadcastInDim S1x8192 ![1] bcast_S8192_S1x8192_1
          (Host.reduceAdd (mulf c c) (constant S_ .f32 0x00000000#32) reducesTo_S8192x64_S8192_d1 h_S_))))
    (mulf (broadcastInDim S36864x8192 ![] bcast_S_S36864x8192 (constant S_ .f32 0x40000000#32))
      (Host.dotGeneral dot_S36864x64_S64x8192_S36864x8192_1_0_0_1_n_n none z
        (transpose S64x8192 [1, 0] c transposes_S8192x64_S64x8192_1_0)))

/-- The index result of an arg-min or arg-max, as an array. -/
def argIndex {s t u : Shape} {axes : List (Fin s.rank)} (f : Ideal .f32 × BitVec 32 → Ideal .f32 × BitVec 32 →
    Ideal .f32 × BitVec 32) (x : FVec Ideal s .f32) (y : IVec s 32) (ix : FVec Ideal u .f32) (iy : IVec u 32)
    (h : s.ReducesTo axes t) (hu : 0 < u.numel) : IVec t 32 := fun j => (Host.argReduce f x y ix iy h hu j).2

/-- The chosen code of each token: the index result of the arg-min over the codes. -/
def tok (D : FVec Ideal S36864x8192 .f32) : IVec S36864 32 :=
  argIndex reducer_argmin_f32_i32 D (iotaInDim S36864x8192 32 1) (constant S_ .f32 0x7F800000#32)
    (constantI S_ 32 0#32) reducesTo_S36864x8192_S36864_d1 h_S_

/-- The start index a take reads: the token's code, wrapped round when negative, as a column. -/
def start (t : IVec S36864 32) : IVec S36864x1 32 :=
  broadcastInDim S36864x1 ![0] bcast_S36864_S36864x1_0
    (select (cmpi .slt t (broadcastInDim S36864 ![] bcast_S_S36864 (constantI S_ 32 0#32)))
      (addi t (broadcastInDim S36864 ![] bcast_S_S36864 (constantI S_ 32 8192#32))) t)

/-- Whether each start index lies in the table. -/
def inside (s : IVec S36864x1 32) : IVec S36864 1 :=
  Host.reduce IntOp.andi
    (andi (cmpi .sge s (broadcastInDim S36864x1 ![] bcast_S_S36864x1 (constantI S_ 32 0#32)))
      (cmpi .sle s (broadcastInDim S36864x1 ![0, 1] bcast_S1x1_S36864x1_0_1
        (broadcastInDim S1x1 ![1] bcast_S1_S1x1_1 (constantI S1 32 8191#32)))))
    (constantI S_ 1 1#1) reducesTo_S36864x1_S36864_d1 h_S_

/-- The taken rows: the table's row at the start index, the fill value where that lies outside. -/
def taken (c : FVec Ideal S8192x64 .f32) (s : IVec S36864x1 32) : FVec Ideal S36864x64 .f32 :=
  select (broadcastInDim S36864x64 ![0] bcast_S36864_S36864x64_0 (inside s))
    (Host.gather gather_S8192x64_S36864x1_S36864x64_1_0_n_n_0_1_164 c s)
    (broadcastInDim S36864x64 ![] bcast_S_S36864x64 (constant S_ .f32 0x7FC00000#32))

/-- The mean over the tokens of the squared distance from `q`'s row to `z`'s. -/
def mean (q z : FVec Ideal S36864x64 .f32) : FVec Ideal S_ .f32 :=
  Host.divf
    (Host.reduceAdd
      (Host.reduceAdd (mulf (subf q z) (subf q z)) (constant S_ .f32 0x00000000#32)
        reducesTo_S36864x64_S36864_d1 h_S_)
      (constant S_ .f32 0x00000000#32) reducesTo_S36864_S_d0 h_S_)
    (constant S_ .f32 0x47100000#32)

/-- The reference's result in its two arguments. -/
def out (z : FVec Ideal S36864x64 .f32) (c : FVec Ideal S8192x64 .f32) : FVec Ideal S_ .f32 :=
  mean (taken c (start (tok (dist z c)))) z

/-- The reference runs, its result ends at `out` of the arguments, and the arguments end unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ d : Dev nD,
      r.2.mem ((d.tc : Thread nD τ).loc main_v20)
          = out (m ((d.tc : Thread nD τ).loc main_arg0)) (m ((d.tc : Thread nD τ).loc main_arg1))
      ∧ r.2.mem ((d.tc : Thread nD τ).loc main_arg0) = m ((d.tc : Thread nD τ).loc main_arg0)
      ∧ r.2.mem ((d.tc : Thread nD τ).loc main_arg1) = m ((d.tc : Thread nD τ).loc main_arg1)) := by
  hlo_run
  simp -implicitDefEqProofs only [StableHlo.TRef.toBuf, StableHlo.TRef.ofBuf, cast_cast, cast_eq]
  unfold out mean taken inside start tok dist
  rfl

/-- The reference's frame: it runs, its arguments end unchanged and every counter ends at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1))
      ∧ r.2.sem = fun _ => 0) :=
  (θ_run defs _ _).mono (fun r h => ⟨fun d => (h d).2, sem_eq_zero_of_no_sems (by decide) r.2⟩) (run m g)

end Cert.Proof.Ref

end
-- ==== Proof.RealLoss.lean ====
module

public import Mathlib.Data.EReal.Operations
public import Mathlib.Algebra.BigOperators.Fin
public import Mathlib.Data.Real.Basic
public import Mathlib.Tactic.Ring
public import Mathlib.Tactic.NormNum

@[expose] public section

noncomputable section

/-! The commitment loss over the real numbers, and the identities both programs' results come to. -/

namespace Cert.Proof.RealLoss

/-- The squared distance from token `i`'s row to code `k`'s row. -/
def sq (z : Fin 36864 → Fin 64 → ℝ) (c : Fin 8192 → Fin 64 → ℝ) (i : Fin 36864) (k : Fin 8192) : ℝ :=
  ∑ j, (c k j - z i j) ^ 2

/-- The least squared distance from token `i`'s row to a code's row. -/
def near (z : Fin 36864 → Fin 64 → ℝ) (c : Fin 8192 → Fin 64 → ℝ) (i : Fin 36864) : ℝ :=
  Finset.univ.inf' ⟨0, Finset.mem_univ _⟩ (sq z c i)

/-- The loss: the mean over the tokens of the least squared distance. -/
def loss (z : Fin 36864 → Fin 64 → ℝ) (c : Fin 8192 → Fin 64 → ℝ) : ℝ :=
  (∑ i, near z c i) * (1 / 36864)

/-- A finite sum of real numbers, each read as an extended real, is the real sum read so. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The reference's expansion of the squared distance. -/
theorem expand_two (z : Fin 36864 → Fin 64 → ℝ) (c : Fin 8192 → Fin 64 → ℝ) (i : Fin 36864) (k : Fin 8192) :
    (∑ j, z i j * z i j) + (∑ j, c k j * c k j) - 2 * (∑ j, z i j * c k j) = sq z c i k := by
  unfold sq
  rw [Finset.mul_sum, ← Finset.sum_add_distrib, ← Finset.sum_sub_distrib]
  exact Finset.sum_congr rfl fun j _ => by ring

/-- The kernel's expansion of the squared distance, the token's own norm added last. -/
theorem expand_neg_two (z : Fin 36864 → Fin 64 → ℝ) (c : Fin 8192 → Fin 64 → ℝ) (i : Fin 36864) (k : Fin 8192) :
    (∑ j, c k j * c k j) + (∑ j, c k j * (-2 * z i j)) + (∑ j, z i j * z i j) = sq z c i k := by
  unfold sq
  rw [← Finset.sum_add_distrib, ← Finset.sum_add_distrib]
  exact Finset.sum_congr rfl fun j _ => by ring

/-- A code no farther than every other attains the least distance. -/
theorem sq_eq_near {z : Fin 36864 → Fin 64 → ℝ} {c : Fin 8192 → Fin 64 → ℝ} {i : Fin 36864} {k : Fin 8192}
    (h : ∀ k', sq z c i k ≤ sq z c i k') : sq z c i k = near z c i :=
  le_antisymm (Finset.le_inf' _ _ fun k' _ => h k') (Finset.inf'_le _ (Finset.mem_univ k))

end Cert.Proof.RealLoss

end
-- ==== Proof.Literals.lean ====
module

public import Idealize.ShloMosaic.PureOps.Ideal.Laws

@[expose] public section

noncomputable section

/-! The constants the two programs spell as bit patterns, read as extended reals. -/

namespace Cert.Proof.Literals

open Idealize.ShloMosaic

/-- The pattern `0x40000000` is two. -/
theorem ofBits_two : Ideal.ofBits .f32 0x40000000#32 = ((2 : ℝ) : EReal) := by
  simp [Ideal.ofBits, Ideal.ieee, -EReal.coe_mul]
  try norm_num

/-- The pattern `0xC0000000` is minus two. -/
theorem ofBits_neg_two : Ideal.ofBits .f32 0xC0000000#32 = ((-2 : ℝ) : EReal) := by
  simp [Ideal.ofBits, Ideal.ieee, -EReal.coe_mul]
  try norm_num

/-- The pattern `0x47100000` is the number of tokens. -/
theorem ofBits_tokens : Ideal.ofBits .f32 0x47100000#32 = ((36864 : ℝ) : EReal) := by
  simp [Ideal.ofBits, Ideal.ieee, -EReal.coe_mul]
  try norm_num

/-- The pattern `0x7F800000` is the top element. -/
theorem ofBits_top : Ideal.ofBits .f32 0x7F800000#32 = (⊤ : EReal) := by
  simp [Ideal.ofBits, Ideal.ieee]

end Cert.Proof.Literals

end
-- ==== Proof.RefValue.lean ====
module

public import proofs.«01_k».proof.Proof.RefRun
public import proofs.«01_k».proof.Proof.RealLoss
public import proofs.«01_k».proof.Proof.Literals
public import Idealize.ShloMosaic.Lib.ValueIdx
public import Idealize.ShloMosaic.Lib.StableHlo.Predicate
public import Idealize.ShloMosaic.PureOps.Ideal.Laws

@[expose] public section

noncomputable section

/-! The reference's result over finite arguments: the real loss. -/

namespace Cert.Proof.Ref

open Idealize.ShloMosaic Idealize.ShloMosaic.ValueIdx
open Cert.ReferenceIdeal Cert.ReferenceIdeal.Gen Cert.Proof.RealLoss Cert.Proof.Literals

/-- A row sum of the host's, from zero, at a row. -/
theorem rowSum_apply {n : Nat} (h : (⟨2, ![n, 64]⟩ : Shape).ReducesTo [1] ⟨1, ![n]⟩)
    (h' : (⟨2, ![n, 64]⟩ : Shape).Reduces [1] ⟨1, ![n]⟩)
    (x : FVec Ideal ⟨2, ![n, 64]⟩ .f32) (i : Fin n) :
    Host.reduceAdd x (constant S_ .f32 0x00000000#32) h h_S_ (ix1 i) = ∑ j : Fin 64, x (ix2 i j) := by
  refine (Ideal.hostReduceAdd_single h h' x _ (ix1 i)).trans ?_
  show Ideal.ofBits .f32 0x00000000#32 + _ = _
  rw [Ideal.ofBits_zero_f32, zero_add]
  refine Finset.sum_congr rfl fun j _ => congrArg x ?_
  funext a
  match a with
  | ⟨0, _⟩ => rfl
  | ⟨1, _⟩ => rfl

/-- The product of a token's row with a code's row, as the host's contraction computes it. -/
theorem dot_apply (z : FVec Ideal S36864x64 .f32) (c : FVec Ideal S8192x64 .f32) (i : Fin 36864) (k : Fin 8192) :
    Host.dotGeneral dot_S36864x64_S64x8192_S36864x8192_1_0_0_1_n_n none z
        (transpose S64x8192 [1, 0] c transposes_S8192x64_S64x8192_1_0) (ix2 i k)
      = ∑ j : Fin 64, z (ix2 i j) * c (ix2 k j) := by
  simp only [Host.dotGeneral]
  rw [Ideal.dotGeneral_apply]
  let D := dot_S36864x64_S64x8192_S36864x8192_1_0_0_1_n_n
  rw [← Equiv.sum_comp (contrEquiv1 D 64 rfl rfl).symm]
  refine Finset.sum_congr rfl fun j _ => ?_
  congr 1
  · refine congrArg z ?_
    funext a
    match a with
    | ⟨0, _⟩ => rfl
    | ⟨1, _⟩ => exact Fin.ext (contrEquiv1_symm_val D 64 rfl rfl j)
  · refine congrArg c ?_
    funext a
    match a with
    | ⟨0, _⟩ => rfl
    | ⟨1, _⟩ => exact Fin.ext (contrEquiv1_symm_val D 64 rfl rfl j)

variable {Z : FVec Ideal S36864x64 .f32} {C : FVec Ideal S8192x64 .f32}
  {z : Fin 36864 → Fin 64 → ℝ} {c : Fin 8192 → Fin 64 → ℝ}

/-- Over finite arguments the distance table holds the real squared distances. -/
theorem dist_eq (hZ : ∀ i j, Z (ix2 i j) = (z i j : EReal)) (hC : ∀ k j, C (ix2 k j) = (c k j : EReal))
    (i : Fin 36864) (k : Fin 8192) : dist Z C (ix2 i k) = (sq z c i k : EReal) := by
  have e : dist Z C (ix2 i k)
      = (Host.reduceAdd (mulf Z Z) (constant S_ .f32 0x00000000#32) reducesTo_S36864x64_S36864_d1 h_S_ (ix1 i)
          + Host.reduceAdd (mulf C C) (constant S_ .f32 0x00000000#32) reducesTo_S8192x64_S8192_d1 h_S_ (ix1 k))
        - Ideal.ofBits .f32 0x40000000#32
          * Host.dotGeneral dot_S36864x64_S64x8192_S36864x8192_1_0_0_1_n_n none Z
              (transpose S64x8192 [1, 0] C transposes_S8192x64_S64x8192_1_0) (ix2 i k) := by
    unfold dist
    rw [subf_apply, addf_apply, mulf_apply]
    refine congrArg₂ (· - ·) (congrArg₂ (· + ·) ?_ ?_) (congrArg₂ (· * ·) rfl rfl)
    · refine congrArg (Host.reduceAdd (mulf Z Z) (constant S_ .f32 0x00000000#32)
        reducesTo_S36864x64_S36864_d1 h_S_) ?_
      funext a
      match a with
      | ⟨0, _⟩ => rfl
    · refine congrArg (Host.reduceAdd (mulf C C) (constant S_ .f32 0x00000000#32)
        reducesTo_S8192x64_S8192_d1 h_S_) ?_
      funext a
      match a with
      | ⟨0, _⟩ => rfl
  rw [e, rowSum_apply _ (by decide), rowSum_apply _ (by decide), dot_apply, ofBits_two]
  simp only [mulf_apply, hZ, hC, ← EReal.coe_mul, coe_sum, ← EReal.coe_add, ← EReal.coe_sub]
  rw [expand_two]

/-! ### The arg-min -/

/-- One step of the arg-min keeps one of its two pairs, and its value is at most each of theirs. -/
theorem step_mem (a b : Ideal .f32 × BitVec 32) :
    (reducer_argmin_f32_i32 a b = a ∨ reducer_argmin_f32_i32 a b = b)
      ∧ (reducer_argmin_f32_i32 a b).1 ≤ (a.1 : EReal) ∧ (reducer_argmin_f32_i32 a b).1 ≤ (b.1 : EReal) := by
  obtain ⟨a, i⟩ := a
  obtain ⟨b, k⟩ := b
  rcases lt_trichotomy (a : EReal) b with h | h | h
  · have e : reducer_argmin_f32_i32 (a, i) (b, k) = (a, i) := by
      have h1 : FloatOps.cmpf .olt a b = 1#1 := by simp [Ideal.cmpf_def, Ideal.cmp, h]
      have h2 : FloatOps.cmpf .une a a = 0#1 := by simp [Ideal.cmpf_def, Ideal.cmp]
      have h3 : FloatOps.cmpf .oeq a b = 0#1 := by simp [Ideal.cmpf_def, Ideal.cmp, h.ne]
      simp only [reducer_argmin_f32_i32, h1, h2, h3]
      rcases BitVec.eq_zero_or_eq_one (IntOp.cmpi .slt i k) with h4 | h4 <;> rw [h4] <;> rfl
    rw [e]
    exact ⟨Or.inl rfl, le_refl _, h.le⟩
  · subst h
    have h1 : FloatOps.cmpf .olt a a = 0#1 := by simp [Ideal.cmpf_def, Ideal.cmp]
    have h2 : FloatOps.cmpf .une a a = 0#1 := by simp [Ideal.cmpf_def, Ideal.cmp]
    have h3 : FloatOps.cmpf .oeq a a = 1#1 := by simp [Ideal.cmpf_def, Ideal.cmp]
    rcases BitVec.eq_zero_or_eq_one (IntOp.cmpi .slt i k) with h4 | h4
    · have e : reducer_argmin_f32_i32 (a, i) (a, k) = (a, k) := by
        simp only [reducer_argmin_f32_i32, h1, h2, h3, h4]; rfl
      rw [e]
      exact ⟨Or.inr rfl, le_refl _, le_refl _⟩
    · have e : reducer_argmin_f32_i32 (a, i) (a, k) = (a, i) := by
        simp only [reducer_argmin_f32_i32, h1, h2, h3, h4]; rfl
      rw [e]
      exact ⟨Or.inl rfl, le_refl _, le_refl _⟩
  · have e : reducer_argmin_f32_i32 (a, i) (b, k) = (b, k) := by
      have h1 : FloatOps.cmpf .olt a b = 0#1 := by simp [Ideal.cmpf_def, Ideal.cmp, h.not_gt]
      have h2 : FloatOps.cmpf .une a a = 0#1 := by simp [Ideal.cmpf_def, Ideal.cmp]
      have h3 : FloatOps.cmpf .oeq a b = 0#1 := by simp [Ideal.cmpf_def, Ideal.cmp, h.ne']
      simp only [reducer_argmin_f32_i32, h1, h2, h3]
      rcases BitVec.eq_zero_or_eq_one (IntOp.cmpi .slt i k) with h4 | h4 <;> rw [h4] <;> rfl
    rw [e]
    exact ⟨Or.inr rfl, h.le, le_refl _⟩

/-- The arg-min's fold ends at its initial pair or at one of the list's, and its value is at most every one of theirs. -/
theorem fold_mem (l : List (Ideal .f32 × BitVec 32)) (a : Ideal .f32 × BitVec 32) :
    (l.foldl reducer_argmin_f32_i32 a = a ∨ l.foldl reducer_argmin_f32_i32 a ∈ l)
      ∧ (l.foldl reducer_argmin_f32_i32 a).1 ≤ (a.1 : EReal)
      ∧ ∀ q ∈ l, (l.foldl reducer_argmin_f32_i32 a).1 ≤ (q.1 : EReal) := by
  induction l generalizing a with
  | nil => exact ⟨Or.inl rfl, le_refl _, fun q hq => absurd hq List.not_mem_nil⟩
  | cons b l ih =>
    obtain ⟨h1, h2, h3⟩ := step_mem a b
    obtain ⟨g1, g2, g3⟩ := ih (reducer_argmin_f32_i32 a b)
    rw [List.foldl_cons]
    refine ⟨?_, g2.trans h2, fun q hq => ?_⟩
    · rcases g1 with g1 | g1
      · rcases h1 with h1 | h1
        · exact Or.inl (g1.trans h1)
        · exact Or.inr (by rw [g1, h1]; exact List.mem_cons_self)
      · exact Or.inr (List.mem_cons_of_mem _ g1)
    · rcases List.mem_cons.mp hq with rfl | hq
      · exact g2.trans h3
      · exact g3 q hq

/-- The index result of an arg-min at `j` is its fold's over the pairs at `j`. -/
theorem argIndex_eq {s t u : Shape} {axes : List (Fin s.rank)} (f : Ideal .f32 × BitVec 32 → Ideal .f32 × BitVec 32 →
    Ideal .f32 × BitVec 32) (x : FVec Ideal s .f32) (y : IVec s 32) (ix : FVec Ideal u .f32) (iy : IVec u 32)
    (h : s.ReducesTo axes t) (hu : 0 < u.numel) (j : t.Idx) :
    argIndex f x y ix iy h hu j
      = ((Host.argReduceFiber x y h j).foldl f (ix (Shape.Idx.first hu), iy (Shape.Idx.first hu))).2 := by
  unfold argIndex
  rw [Ideal.argReduce_eq_reduce2, Host.reduce2_eq_foldl_fiber]

/-- A source index that drops to `j` gives one of the pairs folded at `j`. -/
theorem mem_fiber {s t : Shape} {axes : List (Fin s.rank)} {α β : Type} (x : s.Idx → α) (y : s.Idx → β)
    (h : s.ReducesTo axes t) (j : t.Idx) (n : s.Idx) (hn : h.drop n = j) :
    (x n, y n) ∈ Host.argReduceFiber x y h j := by
  refine List.mem_map.mpr ⟨s.rowMajor n, List.mem_filter.mpr ⟨List.mem_finRange _, ?_⟩, ?_⟩
  · rw [Equiv.symm_apply_apply]
    exact decide_eq_true hn
  · rw [Equiv.symm_apply_apply]

/-- Each pair folded at `j` is that of a source index dropping to `j`. -/
theorem exists_of_mem_fiber {s t : Shape} {axes : List (Fin s.rank)} {α β : Type} (x : s.Idx → α) (y : s.Idx → β)
    (h : s.ReducesTo axes t) (j : t.Idx) {q : α × β} (hq : q ∈ Host.argReduceFiber x y h j) :
    ∃ n, h.drop n = j ∧ q = (x n, y n) := by
  obtain ⟨n, hn, e⟩ := List.mem_map.mp hq
  exact ⟨s.rowMajor.symm n, of_decide_eq_true (List.mem_filter.mp hn).2, e.symm⟩

/-- A table index drops to a token exactly when its row is that token. -/
theorem drop_iff (y : S36864x8192.Idx) (i : Fin 36864) :
    reducesTo_S36864x8192_S36864_d1.drop y = ix1 i ↔ y 0 = i := by
  have hv : (reducesTo_S36864x8192_S36864_d1.drop y 0 : Nat) = y 0 :=
    Shape.ReducesTo.drop_apply_val reducesTo_S36864x8192_S36864_d1 y 0
  constructor
  · intro e
    rw [e] at hv
    exact Fin.ext hv.symm
  · intro e
    funext b
    obtain rfl : b = 0 := Subsingleton.elim _ _
    exact Fin.ext (by rw [hv, e])

/-- From the infinite initial value, and some entry at `j` not infinite, the arg-min's index result at `j` is the index
    operand's at a source index whose value is the least of those at `j`. -/
theorem argIndex_least {s t u : Shape} {axes : List (Fin s.rank)} (x : FVec Ideal s .f32) (y : IVec s 32)
    (ix : FVec Ideal u .f32) (iy : IVec u 32) (h : s.ReducesTo axes t) (hu : 0 < u.numel) (j : t.Idx)
    (hix : (ix (Shape.Idx.first hu) : EReal) = ⊤) (n₀ : s.Idx) (hn₀ : h.drop n₀ = j) (hx : (x n₀ : EReal) ≠ ⊤) :
    ∃ n, h.drop n = j ∧ argIndex reducer_argmin_f32_i32 x y ix iy h hu j = y n
      ∧ ∀ n', h.drop n' = j → (x n : EReal) ≤ x n' := by
  rw [argIndex_eq]
  obtain ⟨h1, -, h3⟩ := fold_mem (Host.argReduceFiber x y h j) (ix (Shape.Idx.first hu), iy (Shape.Idx.first hu))
  rcases h1 with h1 | h1
  · have := h3 _ (mem_fiber x y h j n₀ hn₀)
    rw [h1] at this
    exact absurd (top_le_iff.mp (hix ▸ this)) hx
  · obtain ⟨n, hn, hq⟩ := exists_of_mem_fiber x y h j h1
    refine ⟨n, hn, by rw [hq], fun n' hn' => ?_⟩
    have := h3 _ (mem_fiber x y h j n' hn')
    rw [hq] at this
    exact this

/-- The index operand at a table index is the index's code. -/
theorem iota_eq (n : S36864x8192.Idx) : iotaInDim S36864x8192 32 1 n = BitVec.ofNat 32 (n 1).val := rfl

/-- Over a table with no infinite entry the chosen code of a token is a code attaining the row's least entry. -/
theorem tok_eq (D : FVec Ideal S36864x8192 .f32) (i : Fin 36864) (hD : ∀ k : Fin 8192, (D (ix2 i k) : EReal) ≠ ⊤) :
    ∃ k : Fin 8192, tok D (ix1 i) = BitVec.ofNat 32 k.val ∧ ∀ k' : Fin 8192, (D (ix2 i k) : EReal) ≤ D (ix2 i k') := by
  obtain ⟨n, hn, hv, hle⟩ := argIndex_least D (iotaInDim S36864x8192 32 1) (constant S_ .f32 0x7F800000#32)
    (constantI S_ 32 0#32) reducesTo_S36864x8192_S36864_d1 h_S_ (ix1 i) ofBits_top (ix2 i 0)
    ((drop_iff _ _).mpr rfl) (hD 0)
  have hrow := (drop_iff _ _).mp hn
  obtain ⟨k, rfl⟩ : ∃ k : Fin 8192, n = ix2 i k := ⟨n 1, by rw [← hrow]; exact eq_ix2 n⟩
  rw [iota_eq] at hv
  exact ⟨k, hv, fun k' => hle _ ((drop_iff _ _).mpr rfl)⟩

/-! ### The take -/

/-- A fold of conjunctions over bits that are all one, from one, is one. -/
theorem fold_and_one {ι : Type} (l : List ι) (f : ι → BitVec 1) (hf : ∀ y ∈ l, f y = 1#1) :
    l.foldl (fun r y => IntOp.andi r (f y)) 1#1 = 1#1 := by
  induction l with
  | nil => rfl
  | cons b l ih =>
    rw [List.foldl_cons, hf b List.mem_cons_self]
    exact ih fun y hy => hf y (List.mem_cons_of_mem _ hy)

/-- A code's word, read as a start index, is itself: it is not negative. -/
theorem start_eq (t : IVec S36864 32) (i : Fin 36864) (k : Fin 8192) (h : t (ix1 i) = BitVec.ofNat 32 k.val) :
    start t (ix2 i 0) = BitVec.ofNat 32 k.val := by
  have e : start t (ix2 i 0) = Scalar.select (IntOp.cmpi .slt (t (ix1 i)) 0#32) (t (ix1 i) + 8192#32) (t (ix1 i)) := by
    have hi : ∀ y : S36864.Idx, y = ix1 i →
        select (cmpi .slt t (broadcastInDim S36864 ![] bcast_S_S36864 (constantI S_ 32 0#32)))
          (addi t (broadcastInDim S36864 ![] bcast_S_S36864 (constantI S_ 32 8192#32))) t y
        = Scalar.select (IntOp.cmpi .slt (t (ix1 i)) 0#32) (t (ix1 i) + 8192#32) (t (ix1 i)) := by
      rintro y rfl; rfl
    refine hi _ ?_
    funext a
    match a with
    | ⟨0, _⟩ => rfl
  have hlt : IntOp.cmpi .slt (BitVec.ofNat 32 k.val) 0#32 = 0#1 := by
    refine eq_zero_of_ne_one fun hc => ?_
    have := (StableHlo.Predicate.slt_ofNat_iff k.val 0 (by have := k.isLt; omega) (by norm_num)).mp hc
    omega
  rw [e, h, hlt]
  rfl

/-- A token whose start index is a code's word is inside the table. -/
theorem inside_eq (s : IVec S36864x1 32) (i : Fin 36864) (k : Fin 8192) (h : s (ix2 i 0) = BitVec.ofNat 32 k.val) :
    inside s (ix1 i) = 1#1 := by
  unfold inside
  rw [Host.reduce_eq_foldl]
  refine fold_and_one _ _ fun y hy => ?_
  have hd := of_decide_eq_true (List.mem_filter.mp hy).2
  have hv : (reducesTo_S36864x1_S36864_d1.drop y 0 : Nat) = y 0 :=
    Shape.ReducesTo.drop_apply_val reducesTo_S36864x1_S36864_d1 y 0
  rw [hd] at hv
  have hy' : y = ix2 i 0 := by
    rw [eq_ix2 y]
    have h0 : y 0 = i := Fin.ext hv.symm
    have h1 : y 1 = (0 : Fin 1) := Subsingleton.elim (α := Fin 1) _ _
    rw [h0, h1]
    rfl
  have hk := k.isLt
  show IntOp.andi (IntOp.cmpi .sge (s y) 0#32) (IntOp.cmpi .sle (s y) 8191#32) = 1#1
  rw [hy', h]
  have h1 : IntOp.cmpi .sge (BitVec.ofNat 32 k.val) 0#32 = 1#1 :=
    (StableHlo.Predicate.sle_ofNat_iff 0 k.val (by norm_num) (by omega)).mpr (by omega)
  have h2 : IntOp.cmpi .sle (BitVec.ofNat 32 k.val) 8191#32 = 1#1 :=
    (StableHlo.Predicate.sle_ofNat_iff k.val 8191 (by omega) (by norm_num)).mpr (by omega)
  rw [h1, h2]
  rfl

/-- The gather reads, at a token and a column, the table's row at the token's start index. -/
theorem gather_eq (c : FVec Ideal S8192x64 .f32) (s : IVec S36864x1 32) (i : Fin 36864) (k : Fin 8192) (j : Fin 64)
    (h : s (ix2 i 0) = BitVec.ofNat 32 k.val) :
    Host.gather gather_S8192x64_S36864x1_S36864x64_1_0_n_n_0_1_164 c s (ix2 i j) = c (ix2 k j) := by
  let d := gather_S8192x64_S36864x1_S36864x64_1_0_n_n_0_1_164
  refine congrArg c ?_
  funext a
  refine Fin.ext ?_
  show d.start (ix2 i j) s a + d.batchCoord (ix2 i j) a + d.offCoord (ix2 i j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix2 i j) ⟨List.idxOf (0 : Fin 2) d.startIndexMap,
        List.idxOf_lt_length_iff.2 (List.mem_singleton.mpr rfl)⟩ = ix2 i 0 := by
      funext b
      refine Fin.ext ?_
      match b with
      | ⟨0, _⟩ => rfl
      | ⟨1, _⟩ => rfl
    rw [hsi, h, StableHlo.Predicate.toInt_ofNat_small k.val (by have := k.isLt; omega)]
    show min (k.val : ℤ).toNat (8192 - 1) + 0 + 0 = k.val
    have := k.isLt
    rw [Int.toNat_natCast]
    omega
  · unfold GatherDims.start
    rw [dif_neg (by decide)]
    show 0 + 0 + d.offCoord (ix2 i j) 1 = j.val
    rw [Nat.zero_add]
    rfl

/-- The taken row of a token whose start index is a code's word is that code's row. -/
theorem taken_eq (c : FVec Ideal S8192x64 .f32) (s : IVec S36864x1 32) (i : Fin 36864) (k : Fin 8192) (j : Fin 64)
    (h : s (ix2 i 0) = BitVec.ofNat 32 k.val) : taken c s (ix2 i j) = c (ix2 k j) := by
  have hb : ∀ v : IVec S36864 1,
      broadcastInDim S36864x64 ![0] bcast_S36864_S36864x64_0 v (ix2 i j) = v (ix1 i) := fun v => by
    refine congrArg v ?_
    funext a
    match a with
    | ⟨0, _⟩ => rfl
  unfold taken
  rw [select_apply, hb, inside_eq s i k h, select_one, gather_eq c s i k j h]

/-! ### The result -/

/-- Over finite arguments the reference's result is the real loss. -/
theorem out_eq (hZ : ∀ i j, Z (ix2 i j) = (z i j : EReal)) (hC : ∀ k j, C (ix2 k j) = (c k j : EReal)) :
    out Z C ix0 = (loss z c : EReal) := by
  have key : ∀ i, ∑ j : Fin 64, (mulf (subf (taken C (start (tok (dist Z C)))) Z)
      (subf (taken C (start (tok (dist Z C)))) Z) : FVec Ideal S36864x64 .f32) (ix2 i j) = (near z c i : EReal) := fun i => by
    obtain ⟨k, hk, hmin⟩ := tok_eq (dist Z C) i fun k => by rw [dist_eq hZ hC]; exact EReal.coe_ne_top _
    have hs := start_eq _ i k hk
    have hle : ∀ k', sq z c i k ≤ sq z c i k' := fun k' => by
      have := hmin k'
      rw [dist_eq hZ hC, dist_eq hZ hC] at this
      exact EReal.coe_le_coe_iff.mp this
    rw [← sq_eq_near hle]
    unfold RealLoss.sq
    rw [← coe_sum]
    refine Finset.sum_congr rfl fun j _ => ?_
    rw [mulf_apply, subf_apply, taken_eq C _ i k j hs, hZ, hC, ← EReal.coe_sub, ← EReal.coe_mul, pow_two]
  unfold out mean
  have hsum : Host.reduceAdd (Host.reduceAdd (mulf (subf (taken C (start (tok (dist Z C)))) Z)
      (subf (taken C (start (tok (dist Z C)))) Z)) (constant S_ .f32 0x00000000#32)
        reducesTo_S36864x64_S36864_d1 h_S_)
      (constant S_ .f32 0x00000000#32) reducesTo_S36864_S_d0 h_S_ ix0 = ((∑ i, near z c i : ℝ) : EReal) := by
    refine (Ideal.hostReduceAdd_total reducesTo_S36864_S_d0 (fun b => b.elim0) _ _ ix0).trans ?_
    show Ideal.ofBits .f32 0x00000000#32 + _ = _
    rw [Ideal.ofBits_zero_f32, zero_add, ← coe_sum]
    let e1 : Fin 36864 ≃ S36864.Idx := ⟨ix1, fun y => y 0, fun _ => rfl, fun y => (eq_ix1 y).symm⟩
    rw [← Equiv.sum_comp e1]
    refine Finset.sum_congr rfl fun i _ => ?_
    rw [← key i]
    exact rowSum_apply _ (by decide) _ i
  refine (congrArg₂ Ideal.div hsum ofBits_tokens).trans ?_
  rw [Ideal.div_coe (by norm_num : (36864 : ℝ) ≠ 0), ← EReal.coe_mul]
  rfl

end Cert.Proof.Ref

end
-- ==== Proof.KernelOut.lean ====
module

public import proofs.«01_k».proof.Proof.Gen.KernelIdeal.Frame
public import Idealize.ShloMosaic.Lib.Pipeline.Value
public import Idealize.ShloMosaic.Lib.ValueIdx
public import Idealize.ShloMosaic.Lib.Tactic

@[expose] public section

noncomputable section

/-! What one grid point leaves in the loss word and in the scratch column, as terms in the point's blocks. -/

namespace Cert.Proof.KernelOut

open Idealize.ShloMosaic Idealize.ShloMosaic.TcCoe Idealize.ShloMosaic.ValueIdx Idealize.SL.Sem
open Cert.KernelIdeal Cert.KernelIdeal.Gen

variable {F : FTy → Type} [FloatOps F]

/-- The offset of a whole block's load or store. -/
theorem hz : (![0, 0] : Fin 2 → Nat) = fun _ => 0 := funext fun a => by fin_cases a <;> rfl

/-- A stretch of 2048 rows from row `o` lies in 8192 rows. -/
theorem rows_inb {n : Nat} (o : Nat) (h : o + 2048 ≤ 8192) :
    ∀ a, (![o, 0] : Fin 2 → Nat) a + (![2048, n] : Fin 2 → Nat) a ≤ (⟨2, ![8192, n]⟩ : Shape).size a := fun a =>
  match a with
  | ⟨0, _⟩ => h
  | ⟨1, _⟩ => (Nat.zero_add n).le

/-- The 2048 codebook rows from row `o`. -/
def codes (o : Nat) (h : o + 2048 ≤ 8192) (x : Vec F S8192x64 .f32) : Vec F S2048x64 .f32 :=
  View.ld x (Rect.unit (s := S8192x64) ![o, 0] ![2048, 64] (rows_inb o h))

/-- The 2048 scratch entries from row `o`. -/
def norms (o : Nat) (h : o + 2048 ≤ 8192) (x : Vec F S8192x1 .f32) : Vec F S2048x1 .f32 :=
  View.ld x (Rect.unit (s := S8192x1) ![o, 0] ![2048, 1] (rows_inb o h))

/-- One grid point's loss word: from the block of tokens, the codebook, the codes' squared norms and the word before. -/
def word (x0 : Vec F S64x4608 .f32) (x1 : Vec F S8192x64 .f32) (s : Vec F S8192x1 .f32) (prev : F .f32) : F .f32 :=
  k0_pay5 (k0_pay2 x0) (k0_pay3 x0)
    (k0_pay4 x0 (codes 0 (by decide) x1) (norms 0 (by decide) s) (codes 2048 (by decide) x1) (norms 2048 (by decide) s))
    (codes 4096 (by decide) x1) (norms 4096 (by decide) s) (codes 6144 (by decide) x1) (norms 6144 (by decide) s) prev

/-- The word of a point's loads, each the stretch the word reads. -/
theorem word_of {x0 : Vec F S64x4608 .f32} {x1 : Vec F S8192x64 .f32} {s : Vec F S8192x1 .f32} {v prev : F .f32}
    {s0 s1 s2 s3 : Vec F S2048x1 .f32} {c0 c1 c2 c3 : Vec F S2048x64 .f32}
    (hc0 : c0 = codes 0 (by decide) x1) (hc1 : c1 = codes 2048 (by decide) x1) (hc2 : c2 = codes 4096 (by decide) x1)
    (hc3 : c3 = codes 6144 (by decide) x1) (hs0 : s0 = norms 0 (by decide) s) (hs1 : s1 = norms 2048 (by decide) s)
    (hs2 : s2 = norms 4096 (by decide) s) (hs3 : s3 = norms 6144 (by decide) s) (hv : v = prev) :
    k0_pay5 (k0_pay2 x0) (k0_pay3 x0) (k0_pay4 x0 c0 s0 c1 s1) c2 s2 c3 s3 v = word x0 x1 s prev := by
  subst hc0 hc1 hc2 hc3 hs0 hs1 hs2 hs3 hv
  rfl

/-- A later point leaves the word over the loss before it and the scratch column it found. -/
theorem out_B (c : Dev nD) (i : grid0.Coords)
    (arg1 : Memref sig .tc .vmem S64x4608 .f32) (harg1 : arg1.IsWhole)
    (arg2 : Memref sig .tc .vmem S8192x64 .f32) (harg2 : arg2.IsWhole)
    (arg3 : Memref sig .tc .smem S1x1 .f32) (harg3 : arg3.IsWhole)
    (arg4 : Memref sig .tc .vmem S8192x1 .f32) (harg4 : arg4.IsWhole)
    (hc0 : ¬cond0_0 i) (hc1 : ¬cond0_1 i)
    (x0 : Vec F S64x4608 .f32) (x1 : Vec F S8192x64 .f32) (xo2 : Vec F S1x1 .f32) (xs0 : Vec F S8192x1 .f32) :
    out0_B_2 c i arg1 harg1 arg2 harg2 arg3 harg3 arg4 harg4 hc0 hc1 x0 x1 xo2 xs0
      = fun _ => word x0 x1 xs0 (xo2 (ix2 0 0)) := by
  unfold out0_B_2
  rw [View.read_writes_eq_canon _ _ _ (cover0_B_2 c i arg1 harg1 arg2 harg2 arg3 harg3 arg4 harg4 hc0 hc1 x0 x1 xo2 xs0)]
  unfold kernelRun0_B
  dsimp only
  sl_unfold_words
  rw [View.canon_unit_zero hz]
  simp only [View.readAt_eq_ld, harg1.read_unread, harg2.read_unread, harg3.read_unread, harg4.read_unread,
    View.ld_unit_zero (S := S64x4608) hz]
  funext _
  exact word_of rfl rfl rfl rfl rfl rfl rfl rfl
    (congrArg xo2 (funext fun a => match a with | ⟨0, _⟩ => rfl | ⟨1, _⟩ => rfl))

/-- The first point leaves in the scratch column the codes' squared norms. -/
theorem sout_A (c : Dev nD) (i : grid0.Coords)
    (arg1 : Memref sig .tc .vmem S64x4608 .f32) (harg1 : arg1.IsWhole)
    (arg2 : Memref sig .tc .vmem S8192x64 .f32) (harg2 : arg2.IsWhole)
    (arg3 : Memref sig .tc .smem S1x1 .f32) (harg3 : arg3.IsWhole)
    (arg4 : Memref sig .tc .vmem S8192x1 .f32) (harg4 : arg4.IsWhole)
    (hc0 : cond0_0 i) (hc1 : cond0_1 i) (x0 : Vec F S64x4608 .f32) (x1 : Vec F S8192x64 .f32) :
    sout0_A_0 c i arg1 harg1 arg2 harg2 arg3 harg3 arg4 harg4 hc0 hc1 x0 x1 = k0_pay1 x1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_unit_zero hz]
  simp only [View.readAt_eq_ld, harg2.read_unread, View.ld_unit_zero (S := S8192x64) hz]

/-- A load of the scratch column after its one whole store reads the stored column. -/
theorem readCov_norms (v : View sig .tc .vmem S8192x1 .f32) (o : Nat) (h : o + 2048 ≤ 8192)
    (inb : ∀ a, (![o, 0] : Fin 2 → Nat) a + (![2048, 1] : Fin 2 → Nat) a ≤ S8192x1.size a)
    (p : Vec F S8192x1 .f32) :
    v.readCov [(⟨Rect.unit (s := S8192x1) ![0, 0] ![8192, 1] inb_S8192x1_S8192x1_0_0, p⟩ : View.Piece (Elt F) S8192x1 .f32)]
      (Rect.unit (s := S8192x1) ![o, 0] ![2048, 1] inb).toLoadRect = norms o h p := by
  rw [View.readCov_eq_canon', View.canon_unit_zero (S := S8192x1) hz]
  rfl

/-- The first point leaves the word over zero and the squared norms it has just computed. -/
theorem out_A (c : Dev nD) (i : grid0.Coords)
    (arg1 : Memref sig .tc .vmem S64x4608 .f32) (harg1 : arg1.IsWhole)
    (arg2 : Memref sig .tc .vmem S8192x64 .f32) (harg2 : arg2.IsWhole)
    (arg3 : Memref sig .tc .smem S1x1 .f32) (harg3 : arg3.IsWhole)
    (arg4 : Memref sig .tc .vmem S8192x1 .f32) (harg4 : arg4.IsWhole)
    (hc0 : cond0_0 i) (hc1 : cond0_1 i) (x0 : Vec F S64x4608 .f32) (x1 : Vec F S8192x64 .f32) :
    out0_A_2 c i arg1 harg1 arg2 harg2 arg3 harg3 arg4 harg4 hc0 hc1 x0 x1
      = fun _ => word x0 x1 (k0_pay1 x1) (Scalar.ofBits .f32 0x00000000#32) := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  rw [View.canon_cons_unit_zero hz]
  simp only [View.readAt_eq_ld, harg1.read_unread, harg2.read_unread, View.ld_unit_zero (S := S64x4608) hz]
  funext _
  refine word_of rfl rfl rfl rfl ?_ ?_ ?_ ?_ rfl
  all_goals refine (readCov_norms _ _ (by decide) _ _).trans ?_; rw [View.ld_unit_zero (S := S8192x64) hz]

end Cert.Proof.KernelOut

end
-- ==== Proof.KernelBlock.lean ====
module

public import proofs.«01_k».proof.Proof.KernelOut
public import proofs.«01_k».proof.Proof.RealLoss
public import proofs.«01_k».proof.Proof.Literals
public import Idealize.ShloMosaic.PureOps.Ideal.Laws

@[expose] public section

noncomputable section

/-! One grid point's loss word over finite arguments: the loss before it plus the block's share of the mean. -/

namespace Cert.Proof.KernelBlock

open Idealize.ShloMosaic Idealize.ShloMosaic.ValueIdx
open Cert.KernelIdeal Cert.KernelIdeal.Gen Cert.Proof.RealLoss Cert.Proof.Literals Cert.Proof.KernelOut

/-! ### The layout of the point's blocks -/

/-- A stretch of codebook rows at an index. -/
theorem codes_apply (o : Nat) (h : o + 2048 ≤ 8192) (x : FVec Ideal S8192x64 .f32) (p : Fin 2048) (j : Fin 64) :
    codes (F := Ideal) o h x (ix2 p j) = x (ix2 ⟨o + p.val, by have := p.isLt; omega⟩ j) := by
  refine congrArg x (funext fun a => Fin.ext ?_)
  match a with
  | ⟨0, _⟩ => exact congrArg (o + ·) (Nat.one_mul p.val)
  | ⟨1, _⟩ => exact (Nat.zero_add _).trans (Nat.one_mul j.val)

/-- A stretch of the scratch column at an index. -/
theorem norms_apply (o : Nat) (h : o + 2048 ≤ 8192) (x : FVec Ideal S8192x1 .f32) (p : Fin 2048) :
    norms (F := Ideal) o h x (ix2 p 0) = x (ix2 ⟨o + p.val, by have := p.isLt; omega⟩ 0) := by
  refine congrArg x (funext fun a => Fin.ext ?_)
  match a with
  | ⟨0, _⟩ => exact congrArg (o + ·) (Nat.one_mul p.val)
  | ⟨1, _⟩ => rfl

/-! ### The non-linear and contracting operations at an index -/

/-- Folds of `min` from equal values over pointwise equal families agree. -/
theorem fold_min_congr {n : Nat} {b b' : EReal} {f g : Fin n → EReal} (hb : b = b') (h : ∀ p, f p = g p) :
    (Finset.univ : Finset (Fin n)).fold min b f = (Finset.univ : Finset (Fin n)).fold min b' g := by
  rw [hb, funext h]

/-- A minimum over one axis is the fold of `min` over that axis's coordinates. -/
theorem reduceMin_single {s t : Shape} {a : Fin s.rank} (src : FVec Ideal s .f32) (acc : BitVec 32)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (FloatOps.ofBits .f32 acc) (src ∘ h.lift j) := by
  rw [multiReduction_minimumf_eq_fold]
  exact h.fold_filter_drop_single _ _ src j

/-- The product of a code's row with a token's column. -/
theorem dot_apply (w : FVec Ideal S2048x64 .f32) (v : FVec Ideal S64x4608 .f32) (p : Fin 2048) (q : Fin 4608) :
    matmul dot_S2048x64_S64x4608_S2048x4608_1_0_0_1_n_n none w v (constant S2048x4608 .f32 0x00000000#32) (ix2 p q)
      = ∑ j : Fin 64, w (ix2 p j) * v (ix2 j q) := by
  simp only [matmul]
  rw [Ideal.matmul_constant_zero_apply]
  let D := dot_S2048x64_S64x4608_S2048x4608_1_0_0_1_n_n
  rw [← Equiv.sum_comp (contrEquiv1 D 64 rfl rfl).symm]
  refine Finset.sum_congr rfl fun j _ => ?_
  congr 1
  · refine congrArg w ?_
    funext a
    match a with
    | ⟨0, _⟩ => rfl
    | ⟨1, _⟩ => exact Fin.ext (contrEquiv1_symm_val D 64 rfl rfl j)
  · refine congrArg v ?_
    funext a
    match a with
    | ⟨0, _⟩ => exact Fin.ext (contrEquiv1_symm_val D 64 rfl rfl j)
    | ⟨1, _⟩ => rfl

/-- The least score of a stretch of codes at each token of the block. -/
def blockMin (w : FVec Ideal S2048x64 .f32) (s : FVec Ideal S2048x1 .f32) (v : FVec Ideal S64x4608 .f32) :
    FVec Ideal S1x4608 .f32 :=
  shapeCast S1x4608
    (multiReduction .minimumf [0] S4608
      (addf (broadcastTo S2048x4608 s broadcasts_S2048x1_S2048x4608)
        (matmul dot_S2048x64_S64x4608_S2048x4608_1_0_0_1_n_n none w v (constant S2048x4608 .f32 0x00000000#32)))
      0x7F800000#32 reduces_S2048x4608_S4608 (.inl rfl) rfl) shapeCasts_S4608_S1x4608

/-- A vector of the block's length as one row, at a token. -/
theorem row_apply (v : FVec Ideal S4608 .f32) (q : Fin 4608) :
    shapeCast S1x4608 v shapeCasts_S4608_S1x4608 (ix2 0 q) = v (ix1 q) :=
  shapeCast_apply _ _ _ _ (by
    rw [Shape.rowMajor_val_one, Shape.rowMajor_val_two]
    show q.val = 0 * 4608 + q.val
    omega)

/-- The least score of a stretch of codes at a token: the fold over the stretch of norm plus product. -/
theorem blockMin_apply (w : FVec Ideal S2048x64 .f32) (s : FVec Ideal S2048x1 .f32) (v : FVec Ideal S64x4608 .f32)
    (q : Fin 4608) :
    blockMin w s v (ix2 0 q)
      = (Finset.univ : Finset (Fin 2048)).fold min (⊤ : EReal)
          fun p => (s (ix2 p 0) + ∑ j : Fin 64, w (ix2 p j) * v (ix2 j q) : EReal) := by
  unfold blockMin
  rw [row_apply]
  refine (reduceMin_single _ _ _ _ _ _).trans ?_
  refine fold_min_congr (n := 2048) ofBits_top fun (p : Fin 2048) => ?_
  have hl : reduces_S2048x4608_S4608.lift (ix1 q) p = ix2 p q := by
    funext a
    match a with
    | ⟨0, _⟩ => rfl
    | ⟨1, _⟩ => rfl
  refine (congrArg _ hl).trans ((addf_apply _ _ _).trans (congrArg₂ (· + ·) (congrArg s ?_) (dot_apply _ _ _ _)))
  funext a
  match a with
  | ⟨0, _⟩ => rfl
  | ⟨1, _⟩ => rfl

/-- A code's squared norm, as the first point computes it. -/
theorem pay1_apply (x : FVec Ideal S8192x64 .f32) (k : Fin 8192) :
    k0_pay1 (F := Ideal) x (ix2 k 0) = ∑ j : Fin 64, x (ix2 k j) * x (ix2 k j) := by
  unfold k0_pay1
  refine (congrFun (shapeCast_self _ _) _).trans ?_
  refine (shapeCast_apply _ _ _ (ix1 k) (by
    rw [Shape.rowMajor_val_one, Shape.rowMajor_val_two]
    show k.val = k.val * 1 + 0
    omega)).trans ?_
  refine (Ideal.multiReduction_add_single _ _ _ _ _ _).trans ?_
  refine Finset.sum_congr rfl fun (j : Fin 64) _ => ?_
  rw [mulf_apply]
  have hl : reduces_S8192x64_S8192.lift (ix1 k) j = ix2 k j := by
    funext a
    match a with
    | ⟨0, _⟩ => rfl
    | ⟨1, _⟩ => rfl
  exact congrArg (fun i => x i * x i) hl

/-- A token's squared norm within the block. -/
theorem colSum_apply (x : FVec Ideal S64x4608 .f32) (q : Fin 4608) :
    multiReduction .add [0] S4608 (mulf x x) 0x00000000#32 reduces_S64x4608_S4608 (.inl rfl) rfl (ix1 q)
      = ∑ j : Fin 64, x (ix2 j q) * x (ix2 j q) := by
  refine (Ideal.multiReduction_add_single _ _ _ _ _ _).trans ?_
  refine Finset.sum_congr rfl fun (j : Fin 64) _ => ?_
  rw [mulf_apply]
  have hl : reduces_S64x4608_S4608.lift (ix1 q) j = ix2 j q := by
    funext a
    match a with
    | ⟨0, _⟩ => rfl
    | ⟨1, _⟩ => rfl
  exact congrArg (fun i => x i * x i) hl

/-- The total of a row of the block, as the point computes and extracts it. -/
theorem total_apply (v : FVec Ideal S1x4608 .f32) :
    extractAt ![0, 0, 0] (shapeCast S1x1x1 (multiReduction .add [1, 2] S1
        (shapeCast S1x1x4608 v shapeCasts_S1x4608_S1x1x4608) 0x00000000#32 reduces_S1x1x4608_S1 (.inl rfl) rfl)
        shapeCasts_S1_S1x1x1) inpos_S1x1x1_p0_0_0
      = ∑ q : Fin 4608, v (ix2 0 q) := by
  unfold extractAt
  refine (shapeCast_apply _ _ _ (ix1 0) (by
    rw [Shape.rowMajor_val_one, Shape.rowMajor_val_three]
    rfl)).trans ?_
  refine (Ideal.multiReduction_add_total _ _ _ (fun b => by
    obtain rfl : b = 0 := Subsingleton.elim _ _
    rfl) _ _ _).trans ?_
  let e : S1x1x4608.Idx ≃ Fin 4608 :=
    ⟨fun y => y 2, fun q => ix3 0 0 q, fun y => by
      have h0 : y 0 = (0 : Fin 1) := Subsingleton.elim (α := Fin 1) _ _
      have h1 : y 1 = (0 : Fin 1) := Subsingleton.elim (α := Fin 1) _ _
      rw [eq_ix3 y, h0, h1]
      rfl, fun _ => rfl⟩
  rw [← Equiv.sum_comp e.symm]
  refine Finset.sum_congr rfl fun q _ => ?_
  refine shapeCast_apply _ _ _ (ix2 0 q) ?_
  rw [Shape.rowMajor_val_two, Shape.rowMajor_val_three]
  show 0 * 4608 + q.val = (0 * 1 + 0) * 4608 + q.val
  omega

/-! ### The word -/

/-- The scores of the block's tokens: each one's least distance term over the four stretches, plus its squared norm. -/
def scores (x0 : FVec Ideal S64x4608 .f32) (x1 : FVec Ideal S8192x64 .f32) (s : FVec Ideal S8192x1 .f32) :
    FVec Ideal S1x4608 .f32 :=
  addf
    (minimumf (minimumf (minimumf (minimumf (broadcast S1x4608 (Scalar.ofBits .f32 0x7F800000#32))
        (blockMin (codes (F := Ideal) 0 (by decide) x1) (norms (F := Ideal) 0 (by decide) s) (k0_pay3 x0)))
        (blockMin (codes (F := Ideal) 2048 (by decide) x1) (norms (F := Ideal) 2048 (by decide) s) (k0_pay3 x0)))
        (blockMin (codes (F := Ideal) 4096 (by decide) x1) (norms (F := Ideal) 4096 (by decide) s) (k0_pay3 x0)))
        (blockMin (codes (F := Ideal) 6144 (by decide) x1) (norms (F := Ideal) 6144 (by decide) s) (k0_pay3 x0)))
    (shapeCast S1x4608 (multiReduction .add [0] S4608 (mulf (k0_pay2 x0) (k0_pay2 x0)) 0x00000000#32
      reduces_S64x4608_S4608 (.inl rfl) rfl) shapeCasts_S4608_S1x4608)

/-- The word is the word before plus the block's total score over the number of tokens. -/
theorem word_eq (x0 : FVec Ideal S64x4608 .f32) (x1 : FVec Ideal S8192x64 .f32) (s : FVec Ideal S8192x1 .f32)
    (prev : Ideal .f32) :
    word (F := Ideal) x0 x1 s prev = prev + Ideal.div (∑ q : Fin 4608, scores x0 x1 s (ix2 0 q)) ((36864 : ℝ) : EReal) := by
  rw [← total_apply, ← ofBits_tokens]
  rfl

/-- The least of the four stretches' folds, from the top element, is the value at a code where it is least. -/
theorem fold4 (a : Fin 8192 → ℝ) (k : Fin 8192) (h : ∀ k', a k ≤ a k') (f : (o : Nat) → o + 2048 ≤ 8192 → EReal)
    (hf : ∀ o ho, f o ho = (Finset.univ : Finset (Fin 2048)).fold min (⊤ : EReal)
      fun p => (a ⟨o + p.val, by have := p.isLt; omega⟩ : EReal)) :
    min (min (min (min ⊤ (f 0 (by decide))) (f 2048 (by decide))) (f 4096 (by decide))) (f 6144 (by decide))
      = (a k : EReal) := by
  have hge : ∀ o ho, (a k : EReal) ≤ f o ho := fun o ho => by
    rw [hf, Finset.le_fold_min]
    exact ⟨le_top, fun p _ => EReal.coe_le_coe_iff.mpr (h _)⟩
  have hle : ∀ o ho, o ≤ k.val → k.val < o + 2048 → f o ho ≤ (a k : EReal) := fun o ho h1 h2 => by
    rw [hf, Finset.fold_min_le]
    refine Or.inr ⟨⟨k.val - o, by omega⟩, Finset.mem_univ _, le_of_eq (congrArg (fun i => (a i : EReal)) (Fin.ext ?_))⟩
    show o + (k.val - o) = k.val
    omega
  refine le_antisymm ?_ (le_min (le_min (le_min (le_min le_top (hge _ _)) (hge _ _)) (hge _ _)) (hge _ _))
  have hk := k.isLt
  by_cases h1 : k.val < 2048
  · exact (min_le_left _ _).trans ((min_le_left _ _).trans ((min_le_left _ _).trans
      ((min_le_right _ _).trans (hle 0 _ (by omega) (by omega)))))
  by_cases h2 : k.val < 4096
  · exact (min_le_left _ _).trans ((min_le_left _ _).trans ((min_le_right _ _).trans (hle 2048 _ (by omega) (by omega))))
  by_cases h3 : k.val < 6144
  · exact (min_le_left _ _).trans ((min_le_right _ _).trans (hle 4096 _ (by omega) (by omega)))
  · exact (min_le_right _ _).trans (hle 6144 _ (by omega) (by omega))

/-- A score from the least of the four stretches' values and the squared norm. -/
theorem score_of {b0 b1 b2 b3 v : FVec Ideal S1x4608 .f32} {i : S1x4608.Idx} {u w r : EReal}
    (hm : min (min (min (min ⊤ (b0 i)) (b1 i)) (b2 i)) (b3 i) = u) (hv : v i = w) (hr : u + w = r) :
    addf (minimumf (minimumf (minimumf (minimumf (broadcast S1x4608 (Scalar.ofBits .f32 0x7F800000#32)) b0) b1) b2) b3) v i
      = r := by
  rw [← hr, ← hm, ← hv, ← ofBits_top]
  rfl

variable {x0 : FVec Ideal S64x4608 .f32} {x1 : FVec Ideal S8192x64 .f32} {s : FVec Ideal S8192x1 .f32}
  {z : Fin 36864 → Fin 64 → ℝ} {c : Fin 8192 → Fin 64 → ℝ} {tk : Fin 4608 → Fin 36864}

/-- Over finite arguments a token's score is its least squared distance to a code. -/
theorem scores_eq (h0 : ∀ j q, x0 (ix2 j q) = (z (tk q) j : EReal)) (h1 : ∀ k j, x1 (ix2 k j) = (c k j : EReal))
    (hs : ∀ k, s (ix2 k 0) = ((∑ j, c k j * c k j : ℝ) : EReal)) (q : Fin 4608) :
    scores x0 x1 s (ix2 0 q) = (near z c (tk q) : EReal) := by
  have h2 : k0_pay2 (F := Ideal) x0 = x0 := shapeCast_self _ _
  have h3 : ∀ j, k0_pay3 (F := Ideal) x0 (ix2 j q) = ((-2 * z (tk q) j : ℝ) : EReal) := fun j => by
    have e : k0_pay3 (F := Ideal) x0 (ix2 j q) = Ideal.ofBits .f32 0xC0000000#32 * k0_pay2 (F := Ideal) x0 (ix2 j q) := rfl
    rw [e, h2, ofBits_neg_two, h0, ← EReal.coe_mul]
  let a : Fin 8192 → ℝ := fun k => (∑ j, c k j * c k j) + ∑ j, c k j * (-2 * z (tk q) j)
  obtain ⟨k, -, hk⟩ := Finset.exists_min_image (Finset.univ : Finset (Fin 8192)) a ⟨0, Finset.mem_univ _⟩
  have hb : ∀ o ho, blockMin (codes (F := Ideal) o ho x1) (norms (F := Ideal) o ho s) (k0_pay3 x0) (ix2 0 q)
      = (Finset.univ : Finset (Fin 2048)).fold min (⊤ : EReal)
          fun p => (a ⟨o + p.val, by have := p.isLt; omega⟩ : EReal) := fun o ho => by
    rw [blockMin_apply]
    refine fold_min_congr rfl fun p => ?_
    rw [norms_apply, hs]
    simp only [codes_apply, h1, h3, ← EReal.coe_mul, coe_sum, ← EReal.coe_add]
    rfl
  have hm := fold4 a k (fun k' => hk k' (Finset.mem_univ _)) _ hb
  have hn : sq z c (tk q) k = near z c (tk q) := sq_eq_near fun k' => by
    rw [← expand_neg_two, ← expand_neg_two]
    exact add_le_add_left (hk k' (Finset.mem_univ _)) _
  have hz : (multiReduction .add [0] S4608 (mulf (k0_pay2 (F := Ideal) x0) (k0_pay2 x0)) 0x00000000#32 reduces_S64x4608_S4608
      (.inl rfl) rfl) (ix1 q) = ((∑ j, z (tk q) j * z (tk q) j : ℝ) : EReal) := by
    rw [colSum_apply, h2]
    simp only [h0, ← EReal.coe_mul, coe_sum]
  have hs : ((a k : ℝ) : EReal) + ((∑ j, z (tk q) j * z (tk q) j : ℝ) : EReal) = (near z c (tk q) : EReal) := by
    rw [← hn, ← expand_neg_two, ← EReal.coe_add]
  exact score_of hm ((row_apply _ q).trans hz) hs

/-- Over finite arguments the word is the word before plus the block's share of the mean. -/
theorem word_real (h0 : ∀ j q, x0 (ix2 j q) = (z (tk q) j : EReal)) (h1 : ∀ k j, x1 (ix2 k j) = (c k j : EReal))
    (hs : ∀ k, s (ix2 k 0) = ((∑ j, c k j * c k j : ℝ) : EReal)) (prev : ℝ) :
    word (F := Ideal) x0 x1 s (prev : EReal) = ((prev + (∑ q, near z c (tk q)) * (1 / 36864) : ℝ) : EReal) := by
  rw [word_eq]
  simp only [scores_eq h0 h1 hs, coe_sum]
  rw [Ideal.div_coe (by norm_num : (36864 : ℝ) ≠ 0), ← EReal.coe_mul, ← EReal.coe_add]

/-- Over finite arguments the first point's scratch column holds the codes' squared norms. -/
theorem pay1_real (h1 : ∀ k j, x1 (ix2 k j) = (c k j : EReal)) (k : Fin 8192) :
    k0_pay1 (F := Ideal) x1 (ix2 k 0) = ((∑ j, c k j * c k j : ℝ) : EReal) := by
  rw [pay1_apply]
  simp only [h1, ← EReal.coe_mul, coe_sum]

end Cert.Proof.KernelBlock

end
-- ==== Proof.KernelRun.lean ====
module

public import proofs.«01_k».proof.Proof.KernelBlock

@[expose] public section

noncomputable section

/-! The kernel's run over finite arguments: the result buffer ends at the real loss. -/

namespace Cert.Proof.KernelRun

open Idealize.ShloMosaic Idealize.ShloMosaic.TcCoe Idealize.ShloMosaic.ValueIdx Idealize.SL.Sem
open Cert.KernelIdeal Cert.KernelIdeal.Gen
open Cert.Proof.RealLoss Cert.Proof.KernelOut Cert.Proof.KernelBlock

variable (m : (ℓ : Loc nD τ sig) → Buf (Elt Ideal) ℓ) (g : Dev nD → PrngReg) (d : Dev nD)

/-- The token at place `q` of block `n`. -/
def token (n : Nat) (q : Fin 4608) : Fin 36864 := ⟨(n * 4608 + q.val) % 36864, Nat.mod_lt _ (by decide)⟩

/-- A block's share of the mean. -/
def share (z : Fin 36864 → Fin 64 → ℝ) (c : Fin 8192 → Fin 64 → ℝ) (n : Nat) : ℝ :=
  (∑ q, near z c (token n q)) * (1 / 36864)

/-- The eight blocks' shares sum to the loss. -/
theorem sum_share (z : Fin 36864 → Fin 64 → ℝ) (c : Fin 8192 → Fin 64 → ℝ) :
    ∑ t ∈ Finset.range 8, share z c t = loss z c := by
  unfold share loss
  rw [← Finset.sum_mul, Finset.sum_range, ← Fintype.sum_prod_type' (fun (t : Fin 8) (q : Fin 4608) => near z c (token t.val q))]
  refine congrArg (· * _) ?_
  refine Fintype.sum_equiv (finProdFinEquiv (m := 8) (n := 4608)) _ _ fun x => ?_
  refine congrArg (near z c) (Fin.ext ?_)
  have h1 := x.1.isLt
  have h2 := x.2.isLt
  show (x.1.val * 4608 + x.2.val) % 36864 = x.2.val + 4608 * x.1.val
  omega

/-- The region finds the tokens transposed. -/
theorem V_tokens : V m d main_v0
    = transpose S64x36864 [1, 0] (m ((d : Thread nD τ).loc main_arg0)) transposes_S36864x64_S64x36864_1_0 := by
  show StableHlo.after (List.flatten [hostOps0]) _ _ = _
  simp only [hostOps0, List.flatten_cons, List.flatten_nil, List.append_nil, StableHlo.after_cons, StableHlo.after_nil,
    StableHlo.unary_result']

/-- A point's block of the transposed tokens, at an index. -/
theorem tokens_apply (t : Fin cfg0.N) (j : Fin 64) (q : Fin 4608) :
    (iblk m d 0 t : Vec Ideal S64x4608 .f32) (ix2 j q)
      = (m ((d : Thread nD τ).loc main_arg0) : Vec Ideal S36864x64 .f32) (ix2 (token t.val q) j) := by
  have hi : win0_0.index t 0 = 0 ∧ win0_0.index t 1 = t.val := by
    rcases fin_N0 t with rfl | rfl | rfl | rfl | rfl | rfl | rfl | rfl <;> decide
  have ht : t.val < 8 := Nat.lt_of_lt_of_eq t.isLt N_0
  have hq := q.isLt
  unfold iblk
  rw [View.read_apply]
  show V m d main_v0 _ = _
  rw [V_tokens]
  refine transpose_apply _ _ _ _ _ fun b => ?_
  match b with
  | ⟨0, _⟩ => show j.val = win0_0.index t 0 * 64 + 1 * j.val; rw [hi.1]; omega
  | ⟨1, _⟩ => show (t.val * 4608 + q.val) % 36864 = win0_0.index t 1 * 4608 + 1 * q.val; rw [hi.2]; omega

/-- A point's block of the codebook is the codebook. -/
theorem codebook_apply (t : Fin cfg0.N) (k : Fin 8192) (j : Fin 64) :
    (iblk m d 1 t : Vec Ideal S8192x64 .f32) (ix2 k j)
      = (m ((d : Thread nD τ).loc main_arg1) : Vec Ideal S8192x64 .f32) (ix2 k j) := by
  have hi : win0_1.index t 0 = 0 ∧ win0_1.index t 1 = 0 := by
    rcases fin_N0 t with rfl | rfl | rfl | rfl | rfl | rfl | rfl | rfl <;> decide
  unfold iblk
  rw [View.read_apply]
  show V m d main_arg1 _ = _
  rw [V_main_arg1]
  refine congrArg _ (funext fun a => Fin.ext ?_)
  match a with
  | ⟨0, _⟩ => show win0_1.index t 0 * 8192 + 1 * k.val = k.val; rw [hi.1]; omega
  | ⟨1, _⟩ => show win0_1.index t 1 * 64 + 1 * j.val = j.val; rw [hi.2]; omega

variable {z : Fin 36864 → Fin 64 → ℝ} {c : Fin 8192 → Fin 64 → ℝ}

/-- The first point's loss word and scratch column. -/
theorem outs_A (t : Fin cfg0.N) (h : t.val % 8 = 0) :
    outsAt0 m d t.val t.isLt
      = (fun _ => word (iblk m d 0 t) (iblk m d 1 t) (k0_pay1 (iblk m d 1 t)) (Scalar.ofBits .f32 0x00000000#32),
        k0_pay1 (iblk m d 1 t)) := by
  rw [outsAt0_A m d t h h, out_A, sout_A]

/-- A later point's loss word and scratch column, over those the point before left. -/
theorem outs_B (n : Nat) (h : n + 1 < cfg0.N) :
    outsAt0 m d (n + 1) h
      = (fun _ => word (iblk m d 0 ⟨n + 1, h⟩) (iblk m d 1 ⟨n + 1, h⟩) (outsAt0 m d n (Nat.lt_of_succ_lt h)).2
          ((outsAt0 m d n (Nat.lt_of_succ_lt h)).1 (ix2 0 0)),
        (outsAt0 m d n (Nat.lt_of_succ_lt h)).2) := by
  have hN : cfg0.N = 8 := N_0
  have hB : ¬(⟨n + 1, h⟩ : Fin cfg0.N).val % 8 = 0 := by dsimp only; omega
  rw [outsAt0_B m d ⟨n + 1, h⟩ hB hB, out_B]
  rfl

/-- After point `n` the loss word is the sum of the shares so far, and the scratch column the codes' squared norms. -/
theorem outs_eq
    (hZ : ∀ i j, (m ((d : Thread nD τ).loc main_arg0) : Vec Ideal S36864x64 .f32) (ix2 i j) = (z i j : EReal))
    (hC : ∀ k j, (m ((d : Thread nD τ).loc main_arg1) : Vec Ideal S8192x64 .f32) (ix2 k j) = (c k j : EReal)) :
    ∀ (n : Nat) (h : n < cfg0.N),
      (outsAt0 m d n h).1 = (fun _ => ((∑ t ∈ Finset.range (n + 1), share z c t : ℝ) : EReal))
      ∧ ∀ k : Fin 8192, (outsAt0 m d n h).2 (ix2 k 0) = ((∑ j, c k j * c k j : ℝ) : EReal)
  | 0, h => by
    have h0 := fun j q => (tokens_apply m d ⟨0, h⟩ j q).trans (hZ _ _)
    have h1 := fun k j => (codebook_apply m d ⟨0, h⟩ k j).trans (hC _ _)
    rw [outs_A m d ⟨0, h⟩ rfl]
    refine ⟨?_, pay1_real h1⟩
    funext _
    refine (congrArg (word (F := Ideal) _ _ _) (Ideal.ofBits_zero_f32.trans EReal.coe_zero.symm)).trans ?_
    rw [word_real h0 h1 (pay1_real h1), Finset.sum_range_one, zero_add]
    rfl
  | n + 1, h => by
    have h0 := fun j q => (tokens_apply m d ⟨n + 1, h⟩ j q).trans (hZ _ _)
    have h1 := fun k j => (codebook_apply m d ⟨n + 1, h⟩ k j).trans (hC _ _)
    obtain ⟨i1, i2⟩ := outs_eq hZ hC n (Nat.lt_of_succ_lt h)
    rw [outs_B m d n h]
    refine ⟨?_, i2⟩
    funext _
    refine (congrArg (word (F := Ideal) _ _ _) (congrFun i1 _)).trans ?_
    rw [word_real h0 h1 i2, Finset.sum_range_succ _ (n + 1)]
    rfl

/-- The loss, as contents of the result array. -/
abbrev result (z : Fin 36864 → Fin 64 → ℝ) (c : Fin 8192 → Fin 64 → ℝ) : Buf (Elt Ideal) ((d : Thread nD τ).loc main_v1) :=
  fun _ => (loss z c : EReal)

variable (hZ : ∀ i j, (m ((d : Thread nD τ).loc main_arg0) : Vec Ideal S36864x64 .f32) (ix2 i j) = (z i j : EReal))
  (hC : ∀ k j, (m ((d : Thread nD τ).loc main_arg1) : Vec Ideal S8192x64 .f32) (ix2 k j) = (c k j : EReal))

include hZ hC

/-- The one write-back, at the last point, writes the loss. -/
theorem flushed_eq (t : Fin cfg0.N) (hf : (cfg0.win 2).flush t = true) :
    (dats m 0 d).flushed 2 t = ((cfg0.win 2).blk t).view.read (Elt Ideal) (result d z c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 d).after 2 t0_7) = _
  rw [after0_2, (outs_eq m d hZ hC _ _).1]
  have hs : ∑ t ∈ Finset.range (t0_7.val + 1), share z c t = loss z c := sum_share z c
  rw [hs]
  have hz' : (fun a => win0_2.index t0_7 a * main_v1.ty.shape.size a) = fun _ => 0 := funext fun a => by fin_cases a <;> decide
  exact (Memref.read_access_unit_zero (Elt Ideal) main_v1 hz' (fun a => by rw [congrFun hz' a]; simp) (result d z c)).symm

/-- So the result array ends holding the loss. -/
theorem final_eq : (dats m 0 d).arrAt 2 cfg0.N = result d z c :=
  (dats m 0 d).arrAt_eq_of_cover 2 (result d z c) (flushed_eq m d hZ hC) fun i =>
    ⟨t0_7, (flush0_2 t0_7).mpr rfl, by
      show i ∈ ((View.whole main_v1).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- The host's reshape of the result array holds the loss. -/
theorem tail_eq : Pipeline.afterTail₀ cfgs (dats m) 0 (V0 m) [hostOps1] d main_v2 = fun _ => (loss z c : EReal) := by
  unfold Pipeline.afterTail₀
  simp only [hostOps1, List.flatten_cons, List.flatten_nil, List.append_nil, StableHlo.after_cons, StableHlo.after_nil,
    StableHlo.reshape_result']
  have e := (Pipeline.withArrays_arr spec0 launch0.win.arr_inj d (V0 m d) (fun w => (dats m 0 d).arrAt w cfg0.N) 2).trans
    (final_eq m d hZ hC)
  funext i
  exact congrFun e _

omit hZ hC

/-- The kernel runs: with every device's arguments finite the result buffer ends at the loss, the arguments unchanged. -/
theorem run (z : Dev nD → Fin 36864 → Fin 64 → ℝ) (c : Dev nD → Fin 8192 → Fin 64 → ℝ)
    (hZ : ∀ d i j, (m ((d : Thread nD τ).loc main_arg0) : Vec Ideal S36864x64 .f32) (ix2 i j) = (z d i j : EReal))
    (hC : ∀ d k j, (m ((d : Thread nD τ).loc main_arg1) : Vec Ideal S8192x64 .f32) (ix2 k j) = (c d k j : EReal)) :
    θ_run (defs (F := Ideal)) (onTc (τ := τ) (main (F := Ideal))) ⟨m, fun _ => 0, g⟩ (fun r => ∀ d : Dev nD,
      r.2.mem ((d.tc : Thread nD τ).loc main_v2) = (fun _ => (loss (z d) (c d) : EReal))
      ∧ r.2.mem ((d.tc : Thread nD τ).loc main_arg0) = m ((d.tc : Thread nD τ).loc main_arg0)
      ∧ r.2.mem ((d.tc : Thread nD τ).loc main_arg1) = m ((d.tc : Thread nD τ).loc main_arg1)) :=
  (θ_run defs _ _).mono (fun _ h d =>
    ⟨((h d).2 main_v2 (Pipeline.mem_restRefs_of main_v2 (by decide) (by decide))).trans (tail_eq m d (hZ d) (hC d)),
      ((h d).2 main_arg0 (Pipeline.mem_restRefs_of main_arg0 (by decide) (by decide))).trans (W_main_arg0 m (dats m) d),
      ((h d).1 1).trans (((dats m 0 d).arrAt_in 1 rfl _).trans ((A_eq m d 1).trans (V_main_arg1 m d)))⟩)
    (run_main m g)

end Cert.Proof.KernelRun

end
-- ==== Proof.Finite.lean ====
module

public import proofs.«01_k».proof.Pre_finite
public import proofs.«01_k».proof.Proof.Literals

@[expose] public section

noncomputable section

/-! The precondition read: arguments whose entries' absolute values are below the top element are real arrays. -/

namespace Cert.Proof.Finite

open Idealize.ShloMosaic Cert.Proof.Literals

/-- An extended real whose absolute value compares below the top element is the real number it reads as. -/
theorem coe_toReal {a : EReal} (h : Ideal.cmp .olt (max a (-a)) ⊤ = 1#1) : a = (a.toReal : EReal) := by
  have hlt : max a (-a) < ⊤ := by
    by_contra hn
    simp [Ideal.cmp, hn] at h
  refine (EReal.coe_toReal (fun e => ?_) fun e => ?_).symm
  · exact absurd hlt (by rw [e]; simp)
  · exact absurd hlt (by rw [e]; simp)

/-- An array passing the test is the array of its entries' real readings. -/
theorem real_of_test {s t : Shape} (x : FVec Ideal s .f32) {b : Fin t.rank → Fin s.rank} (h : t.BroadcastsInDim s b)
    (hx : cmpf .olt (Host.absf x) (broadcastInDim s b h (constant t .f32 0x7F800000#32)) = fun _ => 1#1) (i : s.Idx) :
    x i = ((x i : EReal).toReal : EReal) := by
  refine coe_toReal ?_
  rw [← ofBits_top]
  exact congrFun hx i

end Cert.Proof.Finite

end
-- ==== Proof.lean ====
/- The certificate's claims, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.RefRun
public import proofs.«01_k».proof.Proof.RefValue
public import proofs.«01_k».proof.Proof.KernelRun
public import proofs.«01_k».proof.Proof.Finite
public import Idealize.ShloMosaic.Adequacy
public import Idealize.ShloMosaic.Init

@[expose] public section

noncomputable section

namespace Cert.Proof

open Idealize.ShloMosaic Idealize.ShloMosaic.ValueIdx Idealize.SL.Sem

/-- The precondition's side conditions. -/
theorem pre_facts : Cert.Pre_finite.Facts := ⟨by decide, by decide⟩

/-- With finite arguments the kernel's and the reference's results are the same real loss. -/
theorem algebraic : @Cert.algebraic_KernelIdeal_ReferenceIdeal_pre_finite Cert.KernelIdeal.Gen.facts
    Cert.ReferenceIdeal.Gen.facts pre_facts := by
  intro m g m' g' hpre hagree
  have hz := fun d i j => Finite.real_of_test _ _ (hpre d).1 (ix2 i j)
  have hc := fun d k j => Finite.real_of_test _ _ (hpre d).2 (ix2 k j)
  refine ⟨_, KernelRun.run m g _ _ hz hc, ?_⟩
  refine (θ_run _ _ _).mono (fun r hr d => ⟨(hr d).1.trans ?_, (hr d).2⟩) (Ref.run m' g')
  rw [(hagree d).1, (hagree d).2]
  funext i
  refine (congrArg (Ref.out _ _) (funext fun a => a.elim0)).trans (Ref.out_eq (hz d) (hc d))

/-- Every claim of the certificate. -/
theorem claim : Cert.Claim :=
  ⟨Cert.Kernel.Gen.facts, Cert.KernelIdeal.Gen.facts, Cert.ReferenceIdeal.Gen.facts, pre_facts,
    fun m g _ => Cert.Kernel.Gen.frame m g,
    fun m g _ => Cert.KernelIdeal.Gen.frame m g,
    fun m g _ => Cert.KernelIdeal.Gen.frame m g,
    fun m g _ => Ref.frame m g,
    fun m g _ => Ref.frame m g,
    trivial,
    algebraic⟩

end Cert.Proof

end
